-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_row_and_taps [hPre_finite_row_and_taps : Cert.Pre_finite_row_and_taps.Facts] (m : (ℓ : Loc Cert.KernelIdeal.nD Cert.KernelIdeal.τ Cert.KernelIdeal.sig) → Buf (Elt Ideal) ℓ) : Prop :=
  ∀ c : Dev Cert.KernelIdeal.nD,
    (Cert.Pre_finite_row_and_taps.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_row_and_taps.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_row_and_taps [hPre_finite_row_and_taps : Cert.Pre_finite_row_and_taps.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_row_and_taps.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_row_and_taps.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_row_and_taps [hKernelIdeal : Cert.KernelIdeal.Facts] [hPre_finite_row_and_taps : Cert.Pre_finite_row_and_taps.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_row_and_taps m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_row_and_taps [hReferenceIdeal : Cert.ReferenceIdeal.Facts] [hPre_finite_row_and_taps : Cert.Pre_finite_row_and_taps.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_row_and_taps m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_row_and_taps [hKernelIdeal : Cert.KernelIdeal.Facts] [hReferenceIdeal : Cert.ReferenceIdeal.Facts] [hPre_finite_row_and_taps : Cert.Pre_finite_row_and_taps.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_row_and_taps m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_row_and_taps : Cert.Pre_finite_row_and_taps.Facts),
    quiescent_Kernel (hKernel := hKernel)
    ∧ quiescent_KernelIdeal (hKernelIdeal := hKernelIdeal)
    ∧ quiescent_KernelIdeal_pre_finite_row_and_taps (hKernelIdeal := hKernelIdeal) (hPre_finite_row_and_taps := hPre_finite_row_and_taps)
    ∧ quiescent_ReferenceIdeal (hReferenceIdeal := hReferenceIdeal)
    ∧ quiescent_ReferenceIdeal_pre_finite_row_and_taps (hReferenceIdeal := hReferenceIdeal) (hPre_finite_row_and_taps := hPre_finite_row_and_taps)
    ∧ preserves_Kernel_KernelIdeal
    ∧ algebraic_KernelIdeal_ReferenceIdeal_pre_finite_row_and_taps (hKernelIdeal := hKernelIdeal) (hReferenceIdeal := hReferenceIdeal) (hPre_finite_row_and_taps := hPre_finite_row_and_taps)
-- ==== Pre_finite_row_and_taps.lean ====
abbrev S100000x256 : Shape := ⟨2, ![100000, 256]⟩
abbrev S256x1 : Shape := ⟨2, ![256, 1]⟩
abbrev S1x1x9 : Shape := ⟨3, ![1, 1, 9]⟩
abbrev S1 : Shape := ⟨1, ![1]⟩
abbrev S1x256 : Shape := ⟨2, ![1, 256]⟩
abbrev S256 : Shape := ⟨1, ![256]⟩
abbrev S_ : Shape := ⟨0, ![]⟩
abbrev S1x1x5 : Shape := ⟨3, ![1, 1, 5]⟩
abbrev S5 : Shape := ⟨1, ![5]⟩

class Facts : Prop where
  slices_S100000x256_S1x256_0_0 : S100000x256.Slices ![0, 0] S1x256
  shapeCasts_S1x256_S256 : S1x256.ShapeCasts S256
  bcast_S_S256 : S_.BroadcastsInDim S256 (![] : Fin 0 → Fin S256.rank)
  slices_S1x1x9_S1x1x5_0_0_4 : S1x1x9.Slices ![0, 0, 4] S1x1x5
  shapeCasts_S1x1x5_S5 : S1x1x5.ShapeCasts S5
  bcast_S_S5 : S_.BroadcastsInDim S5 (![] : Fin 0 → Fin S5.rank)

variable [Facts]

def fn {F : FTy → Type} [FloatOps F] (main_arg0 : FVec F S100000x256 .f32) (main_arg1 : FVec F S256x1 .f32) (main_arg2 : FVec F S1x1x9 .f32) (main_arg3 : FVec F S1 .f32) : IVec S256 1 × IVec S5 1 :=
  let main_v0 : FVec F S1x256 .f32 := (extractStridedSlice S1x256 ![0, 0] · slices_S100000x256_S1x256_0_0) main_arg0
  let main_v1 : FVec F S256 .f32 := shapeCast S256 main_v0 shapeCasts_S1x256_S256
  let main_v2 : FVec F S256 .f32 := Host.absf main_v1
  let main_cst : FVec F S_ .f32 := constant S_ .f32 0x7F800000#32
  let main_v3 : FVec F S256 .f32 := broadcastInDim S256 ![] bcast_S_S256 main_cst
  let main_v4 : IVec S256 1 := cmpf .olt main_v2 main_v3
  let main_v5 : FVec F S1x1x5 .f32 := (extractStridedSlice S1x1x5 ![0, 0, 4] · slices_S1x1x9_S1x1x5_0_0_4) main_arg2
  let main_v6 : FVec F S5 .f32 := shapeCast S5 main_v5 shapeCasts_S1x1x5_S5
  let main_v7 : FVec F S5 .f32 := Host.absf main_v6
  let main_cst_0 : FVec F S_ .f32 := constant S_ .f32 0x7F800000#32
  let main_v8 : FVec F S5 .f32 := broadcastInDim S5 ![] bcast_S_S5 main_cst_0
  let main_v9 : IVec S5 1 := cmpf .olt main_v7 main_v8
  (main_v4, main_v9)
-- ==== Kernel.lean ====
abbrev S100000x256 : Shape := ⟨2, ![100000, 256]⟩
abbrev S256x1 : Shape := ⟨2, ![256, 1]⟩
abbrev S1x1x9 : Shape := ⟨3, ![1, 1, 9]⟩
abbrev S1 : Shape := ⟨1, ![1]⟩
abbrev S9 : Shape := ⟨1, ![9]⟩
abbrev S8x256 : Shape := ⟨2, ![8, 256]⟩
abbrev S4000x256 : Shape := ⟨2, ![4000, 256]⟩
abbrev S1x256 : Shape := ⟨2, ![1, 256]⟩

abbrev nBuf : Space → Nat
  | .hbm => 6
  | .vmem => 3
  | .smem => 2
  | _ => 0

abbrev bufTy : (tb : Table) → Fin (tcTables nBuf tb) → BufTy
  | .hbm, ⟨0, _⟩ => ⟨S100000x256, .f32⟩
  | .hbm, ⟨1, _⟩ => ⟨S256x1, .f32⟩
  | .hbm, ⟨2, _⟩ => ⟨S1x1x9, .f32⟩
  | .hbm, ⟨3, _⟩ => ⟨S1, .f32⟩
  | .hbm, ⟨4, _⟩ => ⟨S9, .f32⟩
  | .hbm, ⟨5, _⟩ => ⟨S100000x256, .f32⟩
  | .local _ .vmem, ⟨0, _⟩ => ⟨S8x256, .f32⟩
  | .local _ .vmem, ⟨1, _⟩ => ⟨S4000x256, .f32⟩
  | .local _ .vmem, ⟨2, _⟩ => ⟨S4000x256, .f32⟩
  | .local _ .smem, ⟨0, _⟩ => ⟨S9, .f32⟩
  | .local _ .smem, ⟨1, _⟩ => ⟨S1, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg2_0 : Ref sig .tc := ⟨.vmem, 0, rfl⟩
abbrev cc0_stg3_0 : Ref sig .tc := ⟨.vmem, 1, rfl⟩
abbrev cc0_stg3_1 : Ref sig .tc := ⟨.vmem, 2, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4

abbrev nD : Nat := 1
abbrev τ : Topo := Topo.v7x

variable {F : FTy → Type} [FloatOps F]

abbrev grid0 : Pipeline.Grid := ⟨1, ![25], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S9 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S100000x256 : Shape := ⟨2, ![100000, 256]⟩
abbrev S256x1 : Shape := ⟨2, ![256, 1]⟩
abbrev S1x1x9 : Shape := ⟨3, ![1, 1, 9]⟩
abbrev S1 : Shape := ⟨1, ![1]⟩
abbrev S100000x1 : Shape := ⟨2, ![100000, 1]⟩
abbrev S_ : Shape := ⟨0, ![]⟩
abbrev S100000x1x1 : Shape := ⟨3, ![100000, 1, 1]⟩
abbrev S100000x1x256 : Shape := ⟨3, ![100000, 1, 256]⟩
abbrev S256x100000 : Shape := ⟨2, ![256, 100000]⟩
abbrev S256x100008 : Shape := ⟨2, ![256, 100008]⟩
abbrev S1x1x1 : Shape := ⟨3, ![1, 1, 1]⟩

abbrev nBuf : Space → Nat
  | .hbm => 93
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S256x1, .f32⟩
  | .hbm, ⟨2, _⟩ => ⟨S1x1x9, .f32⟩
  | .hbm, ⟨3, _⟩ => ⟨S1, .f32⟩
  | .hbm, ⟨4, _⟩ => ⟨S100000x1, .f32⟩
  | .hbm, ⟨5, _⟩ => ⟨S100000x1, .i32⟩
  | .hbm, ⟨6, _⟩ => ⟨S100000x1, .f32⟩
  | .hbm, ⟨7, _⟩ => ⟨S100000x1, .i32⟩
  | .hbm, ⟨8, _⟩ => ⟨S100000x1, .i32⟩
  | .hbm, ⟨9, _⟩ => ⟨S_, .i32⟩
  | .hbm, ⟨10, _⟩ => ⟨S100000x1, .i32⟩
  | .hbm, ⟨11, _⟩ => ⟨S100000x1, .i1⟩
  | .hbm, ⟨12, _⟩ => ⟨S_, .i32⟩
  | .hbm, ⟨13, _⟩ => ⟨S100000x1, .i32⟩
  | .hbm, ⟨14, _⟩ => ⟨S100000x1, .i32⟩
  | .hbm, ⟨15, _⟩ => ⟨S100000x1, .i32⟩
  | .hbm, ⟨16, _⟩ => ⟨S100000x1x1, .i32⟩
  | .hbm, ⟨17, _⟩ => ⟨S100000x1x256, .f32⟩
  | .hbm, ⟨18, _⟩ => ⟨S100000x256, .f32⟩
  | .hbm, ⟨19, _⟩ => ⟨S256x100000, .f32⟩
  | .hbm, ⟨20, _⟩ => ⟨S_, .i32⟩
  | .hbm, ⟨21, _⟩ => ⟨S_, .f32⟩
  | .hbm, ⟨22, _⟩ => ⟨S256x100008, .f32⟩
  | .hbm, ⟨23, _⟩ => ⟨S256x100000, .f32⟩
  | .hbm, ⟨24, _⟩ => ⟨S1x1x1, .f32⟩
  | .hbm, ⟨25, _⟩ => ⟨S_, .f32⟩
  | .hbm, ⟨26, _⟩ => ⟨S256x100000, .f32⟩
  | .hbm, ⟨27, _⟩ => ⟨S256x100000, .f32⟩
  | .hbm, ⟨28, _⟩ => ⟨S_, .f32⟩
  | .hbm, ⟨29, _⟩ => ⟨S256x100000, .f32⟩
  | .hbm, ⟨30, _⟩ => ⟨S256x100000, .f32⟩
  | .hbm, ⟨31, _⟩ => ⟨S256x100000, .f32⟩
  | .hbm, ⟨32, _⟩ => ⟨S1x1x1, .f32⟩
  | .hbm, ⟨33, _⟩ => ⟨S_, .f32⟩
  | .hbm, ⟨34, _⟩ => ⟨S256x100000, .f32⟩
  | .hbm, ⟨35, _⟩ => ⟨S256x100000, .f32⟩
  | .hbm, ⟨36, _⟩ => ⟨S256x100000, .f32⟩
  | .hbm, ⟨37, _⟩ => ⟨S256x100000, .f32⟩
  | .hbm, ⟨38, _⟩ => ⟨S1x1x1, .f32⟩
  | .hbm, ⟨39, _⟩ => ⟨S_, .f32⟩
  | .hbm, ⟨40, _⟩ => ⟨S256x100000, .f32⟩
  | .hbm, ⟨41, _⟩ => ⟨S256x100000, .f32⟩
  | .hbm, ⟨42, _⟩ => ⟨S256x100000, .f32⟩
  | .hbm, ⟨43, _⟩ => ⟨S256x100000, .f32⟩
  | .hbm, ⟨44, _⟩ => ⟨S1x1x1, .f32⟩
  | .hbm, ⟨45, _⟩ => ⟨S_, .f32⟩
  | .hbm, ⟨46, _⟩ => ⟨S256x100000, .f32⟩
  | .hbm, ⟨47, _⟩ => ⟨S256x100000, .f32⟩
  | .hbm, ⟨48, _⟩ => ⟨S256x100000, .f32⟩
  | .hbm, ⟨49, _⟩ => ⟨S256x100000, .f32⟩
  | .hbm, ⟨50, _⟩ => ⟨S1x1x1, .f32⟩
  | .hbm, ⟨51, _⟩ => ⟨S_, .f32⟩
  | .hbm, ⟨52, _⟩ => ⟨S256x100000, .f32⟩
  | .hbm, ⟨53, _⟩ => ⟨S256x100000, .f32⟩
  | .hbm, ⟨54, _⟩ => ⟨S256x100000, .f32⟩
  | .hbm, ⟨55, _⟩ => ⟨S256x100000, .f32⟩
  | .hbm, ⟨56, _⟩ => ⟨S1x1x1, .f32⟩
  | .hbm, ⟨57, _⟩ => ⟨S_, .f32⟩
  | .hbm, ⟨58, _⟩ => ⟨S256x100000, .f32⟩
  | .hbm, ⟨59, _⟩ => ⟨S256x100000, .f32⟩
  | .hbm, ⟨60, _⟩ => ⟨S256x100000, .f32⟩
  | .hbm, ⟨61, _⟩ => ⟨S256x100000, .f32⟩
  | .hbm, ⟨62, _⟩ => ⟨S1x1x1, .f32⟩
  | .hbm, ⟨63, _⟩ => ⟨S_, .f32⟩
  | .hbm, ⟨64, _⟩ => ⟨S256x100000, .f32⟩
  | .hbm, ⟨65, _⟩ => ⟨S256x100000, .f32⟩
  | .hbm, ⟨66, _⟩ => ⟨S256x100000, .f32⟩
  | .hbm, ⟨67, _⟩ => ⟨S256x100000, .f32⟩
  | .hbm, ⟨68, _⟩ => ⟨S1x1x1, .f32⟩
  | .hbm, ⟨69, _⟩ => ⟨S_, .f32⟩
  | .hbm, ⟨70, _⟩ => ⟨S256x100000, .f32⟩
  | .hbm, ⟨71, _⟩ => ⟨S256x100000, .f32⟩
  | .hbm, ⟨72, _⟩ => ⟨S256x100000, .f32⟩
  | .hbm, ⟨73, _⟩ => ⟨S256x100000, .f32⟩
  | .hbm, ⟨74, _⟩ => ⟨S1x1x1, .f32⟩
  | .hbm, ⟨75, _⟩ => ⟨S_, .f32⟩
  | .hbm, ⟨76, _⟩ => ⟨S256x100000, .f32⟩
  | .hbm, ⟨77, _⟩ => ⟨S256x100000, .f32⟩
  | .hbm, ⟨78, _⟩ => ⟨S256x100000, .f32⟩
  | .hbm, ⟨79, _⟩ => ⟨S_, .f32⟩
  | .hbm, ⟨80, _⟩ => ⟨S256x100000, .f32⟩
  | .hbm, ⟨81, _⟩ => ⟨S256x100000, .f32⟩
  | .hbm, ⟨82, _⟩ => ⟨S100000x256, .f32⟩
  | .hbm, ⟨83, _⟩ => ⟨S_, .i32⟩
  | .hbm, ⟨84, _⟩ => ⟨S100000x1, .i32⟩
  | .hbm, ⟨85, _⟩ => ⟨S100000x1, .i1⟩
  | .hbm, ⟨86, _⟩ => ⟨S_, .i32⟩
  | .hbm, ⟨87, _⟩ => ⟨S100000x1, .i32⟩
  | .hbm, ⟨88, _⟩ => ⟨S100000x1, .i32⟩
  | .hbm, ⟨89, _⟩ => ⟨S100000x1, .i32⟩
  | .hbm, ⟨90, _⟩ => ⟨S100000x1x1, .i32⟩
  | .hbm, ⟨91, _⟩ => ⟨S100000x1x256, .f32⟩
  | .hbm, ⟨92, _⟩ => ⟨S100000x256, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1_0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_call2_v0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_c_2 : Ref sig .tc := ⟨.hbm, 83, rfl⟩
abbrev main_v72 : Ref sig .tc := ⟨.hbm, 84, rfl⟩
abbrev main_v73 : Ref sig .tc := ⟨.hbm, 85, rfl⟩
abbrev main_c_3 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩

abbrev nD : Nat := 1
abbrev τ : Topo := Topo.v7x

variable {F : FTy → Type} [FloatOps F]
-- ==== Proof.TapSum.lean ====
/- The arithmetic of one output element over the extended reals: the nine-tap sum in which four taps meet padding and five
   meet one and the same value is that value times the sum of the five weights. The value and the five weights have to be
   finite, because multiplication does not distribute over a sum of opposite infinities. -/
module

public import Idealize.ShloMosaic.PureOps.Ideal

@[expose] public section

noncomputable section

open Idealize.ShloMosaic

namespace Cert.Taps

/-- A number is finite when it is neither of the two infinities. -/
abbrev Finite (x : EReal) : Prop := x ≠ ⊤ ∧ x ≠ ⊥

/-- A number whose absolute value, as the larger of it and its negation, lies below infinity is finite. -/
theorem finite_of_abs_lt (x : EReal) (h : max x (-x) < ⊤) : Finite x := by
  obtain ⟨h1, h2⟩ := max_lt_iff.1 h
  refine ⟨h1.ne, fun hb => ?_⟩
  rw [hb, EReal.neg_bot] at h2
  exact lt_irrefl _ h2

/-- A finite value times the sum of five finite weights is the sum of the five products. -/
theorem mul_sum5 (x w4 w5 w6 w7 w8 : EReal) (hx : Finite x) (h4 : Finite w4) (h5 : Finite w5) (h6 : Finite w6)
    (h7 : Finite w7) (h8 : Finite w8) :
    x * w4 + x * w5 + x * w6 + x * w7 + x * w8 = x * (w4 + w5 + w6 + w7 + w8) := by
  lift x to ℝ using hx
  lift w4 to ℝ using h4
  lift w5 to ℝ using h5
  lift w6 to ℝ using h6
  lift w7 to ℝ using h7
  lift w8 to ℝ using h8
  norm_cast
  ring

/-- The whole element: the nine-tap sum from zero, its first four taps at padding, plus the offset, is the value times the
    sum of the last five weights, plus the offset. Nothing is asked of the first four weights or of the offset. -/
theorem nine_taps (x w0 w1 w2 w3 w4 w5 w6 w7 w8 b : EReal) (hx : Finite x) (h4 : Finite w4) (h5 : Finite w5)
    (h6 : Finite w6) (h7 : Finite w7) (h8 : Finite w8) :
    0 + 0 * w0 + 0 * w1 + 0 * w2 + 0 * w3 + x * w4 + x * w5 + x * w6 + x * w7 + x * w8 + b
      = x * (w4 + w5 + w6 + w7 + w8) + b := by
  rw [← mul_sum5 x w4 w5 w6 w7 w8 hx h4 h5 h6 h7 h8]
  simp only [zero_mul, zero_add]

end Cert.Taps

end
-- ==== Proof.Finite.lean ====
/- What the precondition says: the elements of the first row and the weights 4 to 8 are finite numbers. -/
module

public import proofs.«01_k».proof.Proof.TapSum
public import proofs.«01_k».proof.Proof.Gen.Pre_finite_row_and_taps
public import Idealize.ShloMosaic.Lib.Pointwise

@[expose] public section

set_option maxRecDepth 16384

noncomputable section

open Idealize.ShloMosaic Cert.Pre_finite_row_and_taps Cert.Pre_finite_row_and_taps.Gen

namespace Cert.Taps

variable (x0 : FVec Ideal S100000x256 .f32) (x1 : FVec Ideal S256x1 .f32) (x2 : FVec Ideal S1x1x9 .f32) (x3 : FVec Ideal S1 .f32)

/-- A comparison of an absolute value with the word of infinity that answers one says that the number is finite. -/
theorem finite_of_cmp (x : EReal)
    (h : BitVec.ofBool (decide ((FloatOps.absf (F := Ideal) (φ := .f32) x : EReal) < Ideal.ofBits .f32 0x7F800000#32)) = 1#1) :
    Finite x := by
  have hinf : Ideal.ofBits .f32 0x7F800000#32 = ⊤ := by simp [Ideal.ofBits, Ideal.ieee]
  rw [hinf] at h
  apply finite_of_abs_lt
  by_contra hn
  have hn' : ¬(FloatOps.absf (F := Ideal) (φ := .f32) x : EReal) < ⊤ := hn
  rw [decide_eq_false hn'] at h
  exact absurd h (by decide)

/-- The precondition's first part: the first row is finite. -/
theorem row_finite (h : (fn (F := Ideal) x0 x1 x2 x3).1 = fun _ => 1#1) (l : Fin 256) : Finite (x0 (ix2 (0 : Fin 100000) l)) := by
  have hl := congrFun h (ix1 l)
  unfold fn at hl
  apply finite_of_cmp
  refine Eq.trans ?_ hl
  pointwise []

/-- The precondition's second part: the weights 4 to 8 are finite. -/
theorem weight_finite (h : (fn (F := Ideal) x0 x1 x2 x3).2 = fun _ => 1#1) (k : Fin 5) :
    Finite (x2 (ix3 (0 : Fin 1) (0 : Fin 1) (⟨4 + k.val, by omega⟩ : Fin 9))) := by
  have hl := congrFun h (ix1 k)
  unfold fn at hl
  apply finite_of_cmp
  refine Eq.trans ?_ hl
  pointwise []

end Cert.Taps

end
-- ==== Proof.Indices.lean ====
/- The positions that sorting along an axis of extent one yields, and what a gather reads at them. An axis of extent one has
   one position, zero: every sorting index is zero, sorting them again changes nothing, and a gather of whole rows at index
   zero reads row zero everywhere. -/
module

public import proofs.«01_k».proof.ReferenceIdeal
public import Idealize.ShloMosaic.Lib.Pointwise

@[expose] public section

set_option maxRecDepth 16384

noncomputable section

open Idealize.ShloMosaic Cert.ReferenceIdeal

namespace Cert.ReferenceIdeal.Rows

/-- The indices that sort a one-column array along its rows are all zero, whatever the array and the order. -/
theorem argsort_zero {α : Type} (cmp : α × BitVec 32 → α × BitVec 32 → BitVec 1) (x : S100000x1.Idx → α) :
    (Host.sort2 S100000x1 1 cmp x (iotaInDim S100000x1 32 1)).2 = fun _ => 0#32 := by
  funext j
  unfold Host.sort2
  rw [dif_pos (by decide)]
  dsimp only [iotaInDim]
  generalize Shape.Idx.along j _ _ = i
  have h : (i 1).val = 0 := by
    have := (i 1).isLt
    change (i 1).val < 1 at this
    omega
  change BitVec.ofNat 32 (i 1).val = 0#32
  rw [h]

/-- Sorting an array of equal entries leaves it as it is. -/
theorem sort_const {α : Type} (s : Shape) (d : Nat) (cmp : α → α → BitVec 1) (a : α) :
    Host.sort s d cmp (fun _ => a) = fun _ => a := by
  funext j
  unfold Host.sort
  split <;> rfl

/-- The table of row positions that a column of zero indices gives: no index is negative, so none is moved. -/
theorem table_zero (h0 : S_.BroadcastsInDim S100000x1 (![] : Fin 0 → Fin S100000x1.rank))
    (h1 : S100000x1.BroadcastsInDim S100000x1x1 (![0, 1] : Fin 2 → Fin S100000x1x1.rank)) :
    broadcastInDim S100000x1x1 ![0, 1] h1
        (select (cmpi .slt (fun _ => 0#32 : IVec S100000x1 32) (broadcastInDim S100000x1 ![] h0 (constantI S_ 32 0#32)))
          (addi (fun _ => 0#32 : IVec S100000x1 32) (broadcastInDim S100000x1 ![] h0 (constantI S_ 32 100000#32)))
          (fun _ => 0#32 : IVec S100000x1 32))
      = fun _ => 0#32 := by
  funext j
  rfl

/-- Gathering whole rows at index zero everywhere: every row of the result is row zero of the operand. -/
theorem gather_zero [Facts] {α : Type} (x : S100000x256.Idx → α) :
    Host.gather gather_S100000x256_S100000x1x1_S100000x1x256_2_0_n_n_0_2_1256 x (fun _ => 0#32)
      = fun j => x (ix2 (0 : Fin 100000) (j 2 : Fin 256)) := by
  funext j
  unfold Host.gather
  refine congrArg x (funext fun a => Fin.ext ?_)
  generalize hd : gather_S100000x256_S100000x1x1_S100000x1x256_2_0_n_n_0_2_1256 = d
  have hoff : d.offsetDims = [2] := by rw [← hd]; rfl
  have hcoll : d.collapsedSliceDims = [0] := by rw [← hd]; rfl
  have hob : d.operandBatchingDims = [] := by rw [← hd]; rfl
  have hstart : ∀ a, d.start j (fun _ => 0#32) a = 0 := fun a => by
    unfold GatherDims.start
    split <;> simp
  have hb : ∀ a, d.batchCoord j a = 0 := fun a => d.batchCoord_eq_zero j a (by rw [hob]; exact List.not_mem_nil)
  have key : d.start j (fun _ => 0#32) a + d.batchCoord j a + d.offCoord j a = d.offCoord j a := by
    rw [hstart, hb, Nat.add_zero, Nat.zero_add]
  refine key.trans ?_
  match a with
  | ⟨0, _⟩ => exact d.offCoord_eq_zero j _ fun h => ((d.mem_sKept _).1 h).1 (by rw [hcoll]; exact List.mem_singleton.2 rfl)
  | ⟨1, _⟩ =>
    have hk : (1 : Fin 2) ∈ d.sKept := (d.mem_sKept _).2 ⟨by rw [hcoll]; decide, by rw [hob]; exact List.not_mem_nil⟩
    have h2 : ∀ k ∈ d.offsetDims, k = (2 : Fin 3) := fun k hk => by rw [hoff] at hk; exact List.mem_singleton.1 hk
    have e : ∀ k : Fin 3, k = 2 → (j k).val = (j 2).val := fun k h => by rw [h]
    show d.offCoord j (1 : Fin 2) = (j 2).val
    unfold GatherDims.offCoord
    rw [dif_pos hk]
    exact e _ (h2 _ (List.getElem_mem _))

end Cert.ReferenceIdeal.Rows

end
-- ==== Proof.RefValue.lean ====
/- What the reference computes: every element of its result, in column `l`, is the nine-tap sum read at the first position of
   the padded row — four taps of padding, then five of the first row's element `l` —, plus the offset. -/
module

public import proofs.«01_k».proof.Proof.Indices
public import proofs.«01_k».proof.Proof.Gen.ReferenceIdeal.Run

@[expose] public section

set_option maxRecDepth 16384

noncomputable section

open Idealize.ShloMosaic Idealize.ShloMosaic.TcCoe Idealize.SL.Sem Cert.ReferenceIdeal Cert.ReferenceIdeal.Gen

namespace Cert.ReferenceIdeal.Rows

variable (m : (ℓ : Loc nD τ sig) → Buf (Elt Ideal) ℓ) (c : Dev nD)

/-- The input rows. -/
abbrev X : FVec Ideal S100000x256 .f32 := m ((c.tc : Thread nD τ).loc main_arg0)
/-- The nine weights. -/
abbrev W : FVec Ideal S1x1x9 .f32 := m ((c.tc : Thread nD τ).loc main_arg2)
/-- The offset. -/
abbrev B : FVec Ideal S1 .f32 := m ((c.tc : Thread nD τ).loc main_arg3)

/-- The reference's result at row `r`, column `l`. -/
theorem result_apply (r : Fin 100000) (l : Fin 256) :
    Value.res_out0 m c (ix2 r l)
      = 0 + 0 * W m c (ix3 (0 : Fin 1) (0 : Fin 1) (0 : Fin 9)) + 0 * W m c (ix3 (0 : Fin 1) (0 : Fin 1) (1 : Fin 9))
        + 0 * W m c (ix3 (0 : Fin 1) (0 : Fin 1) (2 : Fin 9)) + 0 * W m c (ix3 (0 : Fin 1) (0 : Fin 1) (3 : Fin 9))
        + X m c (ix2 (0 : Fin 100000) l) * W m c (ix3 (0 : Fin 1) (0 : Fin 1) (4 : Fin 9))
        + X m c (ix2 (0 : Fin 100000) l) * W m c (ix3 (0 : Fin 1) (0 : Fin 1) (5 : Fin 9))
        + X m c (ix2 (0 : Fin 100000) l) * W m c (ix3 (0 : Fin 1) (0 : Fin 1) (6 : Fin 9))
        + X m c (ix2 (0 : Fin 100000) l) * W m c (ix3 (0 : Fin 1) (0 : Fin 1) (7 : Fin 9))
        + X m c (ix2 (0 : Fin 100000) l) * W m c (ix3 (0 : Fin 1) (0 : Fin 1) (8 : Fin 9))
        + B m c (ix1 (0 : Fin 1)) := by
  unfold Value.res_out0 Value.res_main_v79
  rw [argsort_zero, sort_const, table_zero, gather_zero, gather_zero]
  pointwise []
  have hpad : FloatOps.sitofp (F := Ideal) .f32 0#32 = (0 : EReal) := by
    show (((0#32 : BitVec 32).toInt : ℝ) : EReal) = 0
    simp
  rw [hpad]

end Cert.ReferenceIdeal.Rows

end
-- ==== Proof.KernelBlock.lean ====
/- What one grid point computes: the block it leaves holds, in every row, the first row of the input block times the sum of the
   weights 4 to 8, plus the offset. -/
module

public import proofs.«01_k».proof.Proof.Gen.KernelIdeal.Value
public import Idealize.ShloMosaic.Lib.Pointwise

@[expose] public section

set_option maxRecDepth 16384

noncomputable section

open Idealize.ShloMosaic Idealize.ShloMosaic.TcCoe Idealize.SL.Sem
open Cert.KernelIdeal Cert.KernelIdeal.Gen

namespace Cert.KernelIdeal.RowValue

/-- The two zero offsets of a whole block. -/
theorem hz : (![0, 0] : Fin 2 → Nat) = fun _ => 0 := funext fun a => by fin_cases a <;> rfl

/-- The block a grid point leaves, at row `r`, column `l`, in terms of the weights `x0`, the offset `x1` and the eight input
    rows `x2` that it loads. -/
theorem out_apply (c : Dev nD) (i : grid0.Coords) (a1 : Memref sig .tc .smem S9 .f32) (h1 : a1.IsWhole)
    (a2 : Memref sig .tc .smem S1 .f32) (h2 : a2.IsWhole) (a3 : Memref sig .tc .vmem S8x256 .f32) (h3 : a3.IsWhole)
    (a4 : Memref sig .tc .vmem S4000x256 .f32) (h4 : a4.IsWhole)
    (x0 : Vec Ideal S9 .f32) (x1 : Vec Ideal S1 .f32) (x2 : Vec Ideal S8x256 .f32) (r : Fin 4000) (l : Fin 256) :
    out0_A_3 c i a1 h1 a2 h2 a3 h3 a4 h4 x0 x1 x2 (ix2 r l)
      = x2 (ix2 (0 : Fin 8) l)
          * (x0 (ix1 (4 : Fin 9)) + x0 (ix1 (5 : Fin 9)) + x0 (ix1 (6 : Fin 9)) + x0 (ix1 (7 : Fin 9)) + x0 (ix1 (8 : Fin 9)))
        + x1 (ix1 (0 : Fin 1)) := by
  unfold out0_A_3
  rw [View.read_writes_eq_canon _ _ _ (cover0_A_3 c i a1 h1 a2 h2 a3 h3 a4 h4 x0 x1 x2)]
  unfold kernelRun0_A
  dsimp only
  sl_unfold_words
  rw [View.canon_unit_zero hz]
  unfold k0_pay1
  simp only [View.readAt_apply, h1.read_unread, h2.read_unread, h3.read_unread]
  pointwise []
  rw [View.readAt_apply, h3.read_unread]
  have e : (Rect.unit (s := S8x256) ![0, 0] S1x256.size inb_S8x256_S1x256_0_0).toLoadRect.idx (ix2 (0 : Fin 1) l)
      = ix2 (0 : Fin 8) l := by
    funext a
    apply Fin.ext
    match a with
    | ⟨0, _⟩ => rfl
    | ⟨1, _⟩ => show 0 + 1 * l.val = l.val; omega
  exact congrArg (fun i => x2 i * _ + _) e

end Cert.KernelIdeal.RowValue

end
-- ==== Proof.KernelValue.lean ====
/- What the kernel's result array holds after the run: its twenty-five blocks of 4000 rows fill it, and every element in column
   `l` is the first row's element `l` times the sum of the weights 4 to 8, plus the offset. -/
module

public import proofs.«01_k».proof.Proof.KernelBlock
public import Idealize.ShloMosaic.Lib.StableHlo.Run

@[expose] public section

set_option maxRecDepth 16384

noncomputable section

open Idealize.ShloMosaic Idealize.ShloMosaic.TcCoe Idealize.SL.Sem
open Cert.KernelIdeal Cert.KernelIdeal.Gen

namespace Cert.KernelIdeal.RowValue

variable (m : (ℓ : Loc nD τ sig) → Buf (Elt Ideal) ℓ) (ρ : Dev nD → PrngReg) (c : Dev nD)

/-- The input rows. -/
abbrev X : FVec Ideal S100000x256 .f32 := m ((c.tc : Thread nD τ).loc main_arg0)
/-- The nine weights. -/
abbrev W : FVec Ideal S1x1x9 .f32 := m ((c.tc : Thread nD τ).loc main_arg2)
/-- The offset. -/
abbrev B : FVec Ideal S1 .f32 := m ((c.tc : Thread nD τ).loc main_arg3)

/-- The element that the result holds in column `l`, whatever the row. -/
def elem (l : Fin 256) : EReal :=
  X m c (ix2 (0 : Fin 100000) l)
      * (W m c (ix3 (0 : Fin 1) (0 : Fin 1) (4 : Fin 9)) + W m c (ix3 (0 : Fin 1) (0 : Fin 1) (5 : Fin 9))
        + W m c (ix3 (0 : Fin 1) (0 : Fin 1) (6 : Fin 9)) + W m c (ix3 (0 : Fin 1) (0 : Fin 1) (7 : Fin 9))
        + W m c (ix3 (0 : Fin 1) (0 : Fin 1) (8 : Fin 9)))
    + B m c (ix1 (0 : Fin 1))

/-- The result array: `elem` in every row. -/
def rows : Buf (Elt Ideal) ((c : Thread nD τ).loc main_v1) := fun i : S100000x256.Idx => elem m c (i 1)

/-- Where the windows' blocks lie: the weights, the offset and the first eight rows stay at the start of their arrays, and the
    result's block moves down by one block a point. -/
theorem idx_facts : ∀ t : Fin cfg0.N, win0_0.index t (0 : Fin 1) = 0 ∧ win0_1.index t (0 : Fin 1) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The blocks of the result have their full size at every point. -/
theorem size_facts : ∀ t : Fin cfg0.N, win0_3.xsize (grid0.coords t) (0 : Fin 2) = 4000
    ∧ win0_3.xsize (grid0.coords t) (1 : Fin 2) = 256 :=
  (by decide +kernel : ∀ t : Fin grid0.N, _)

/-- The weights the kernel is given: the argument's nine numbers as a vector. -/
theorem weights_eq : V m c main_v0 = shapeCast S9 (W m c) shapeCasts_S1x1x9_S9 := by
  unfold V
  simp only [hostOps0]
  after_results_simp
  rfl

/-- The weights block holds weight `k` of the argument at position `k`. -/
theorem weights_apply (t : Fin cfg0.N) (k : Fin 9) :
    (iblk m c 0 t : Vec Ideal S9 .f32) (ix1 k) = W m c (ix3 (0 : Fin 1) (0 : Fin 1) k) := by
  have e : ((cfg0.win 0).blk t).view.emb (ix1 k : S9.Idx) = (ix1 k : S9.Idx) := by
    obtain ⟨e0, _⟩ := idx_facts t
    funext a; apply Fin.ext
    match a with
    | ⟨0, _⟩ => show win0_0.index t (0 : Fin 1) * 9 + 1 * k.val = k.val; omega
  show V m c main_v0 (((cfg0.win 0).blk t).view.emb (ix1 k : S9.Idx)) = _
  rw [e, weights_eq]
  pointwise []

/-- The offset block holds the offset. -/
theorem offset_apply (t : Fin cfg0.N) : (iblk m c 1 t : Vec Ideal S1 .f32) (ix1 (0 : Fin 1)) = B m c (ix1 (0 : Fin 1)) := by
  have e : ((cfg0.win 1).blk t).view.emb (ix1 (0 : Fin 1) : S1.Idx) = (ix1 (0 : Fin 1) : S1.Idx) := by
    obtain ⟨_, e1, _⟩ := idx_facts t
    funext a; apply Fin.ext
    match a with
    | ⟨0, _⟩ => show win0_1.index t (0 : Fin 1) * 1 + 1 * 0 = 0; omega
  show V m c main_arg3 (((cfg0.win 1).blk t).view.emb (ix1 (0 : Fin 1) : S1.Idx)) = _
  rw [e, V_main_arg3]

/-- The rows block holds the argument's first row in its first row. -/
theorem row_apply (t : Fin cfg0.N) (l : Fin 256) :
    (iblk m c 2 t : Vec Ideal S8x256 .f32) (ix2 (0 : Fin 8) l) = X m c (ix2 (0 : Fin 100000) l) := by
  have e : ((cfg0.win 2).blk t).view.emb (ix2 (0 : Fin 8) l : S8x256.Idx) = (ix2 (0 : Fin 100000) l : S100000x256.Idx) := by
    obtain ⟨_, _, e0, e1, _⟩ := idx_facts t
    funext a; apply Fin.ext
    match a with
    | ⟨0, _⟩ => show win0_2.index t (0 : Fin 2) * 8 + 1 * 0 = 0; omega
    | ⟨1, _⟩ => show win0_2.index t (1 : Fin 2) * 256 + 1 * l.val = l.val; omega
  show V m c main_arg0 (((cfg0.win 2).blk t).view.emb (ix2 (0 : Fin 8) l : S8x256.Idx)) = _
  rw [e, V_main_arg0]

/-- What a grid point leaves, read with its own loads: `elem` in every row. -/
theorem block_apply (t : Fin cfg0.N) (r : Fin 4000) (l : Fin 256) : outsAt0 m c t (ix2 r l) = elem m c l := by
  unfold outsAt0
  rw [out_apply]
  rw [weights_apply, weights_apply, weights_apply, weights_apply, weights_apply, offset_apply, row_apply]
  rfl

/-- What a grid point writes back is its block of `rows`. -/
theorem flushed_eq (t : Fin cfg0.N) :
    (dats m 0 c).flushed 3 t = ((cfg0.win 3).blk t).view.read (Elt Ideal) (rows m c) := by
  rw [Value.flushed3]
  funext y
  obtain ⟨_, _, _, _, _, e1⟩ := idx_facts t
  obtain ⟨s0, s1⟩ := size_facts t
  have h0 : (y (0 : Fin 2)).val < win0_3.xsize (grid0.coords t) (0 : Fin 2) := (y (0 : Fin 2)).isLt
  have h1 : (y (1 : Fin 2)).val < win0_3.xsize (grid0.coords t) (1 : Fin 2) := (y (1 : Fin 2)).isLt
  rw [s0] at h0
  rw [s1] at h1
  refine Eq.trans ?_ (block_apply m c t ⟨(y (0 : Fin 2)).val, h0⟩ ⟨(y (1 : Fin 2)).val, h1⟩) |>.trans ?_
  · refine congrArg (outsAt0 m c t) (funext fun a => Fin.ext ?_)
    match a with
    | ⟨0, _⟩ => rfl
    | ⟨1, _⟩ => rfl
  · show elem m c _ = elem m c _
    refine congrArg (elem m c) (Fin.ext ?_)
    show (y (1 : Fin 2)).val = win0_3.index t (1 : Fin 2) * 256 + 1 * (y (1 : Fin 2)).val
    omega

/-- An index of the result lies in point `t`'s block when its row does. -/
theorem mem_blk (t : Fin cfg0.N) (i : S100000x256.Idx) :
    i ∈ ((cfg0.win 3).blk t).view.set ↔ t.val * 4000 ≤ (i 0 : Nat) ∧ (i 0 : Nat) < t.val * 4000 + 4000 := by
  show i ∈ ((View.whole main_v1).slice (win0_3.rect t)).set ↔ _
  rw [View.set_slice_whole, Rect.mem_set_unit]
  have h1 : (i 1 : Nat) < 256 := (i 1).isLt
  obtain ⟨_, _, _, _, e0, e1⟩ := idx_facts t
  obtain ⟨s0, s1⟩ := size_facts t
  refine ⟨fun h => ?_, fun h a => ?_⟩
  · have h' : win0_3.index t (0 : Fin 2) * 4000 ≤ (i 0 : Nat)
        ∧ (i 0 : Nat) < win0_3.index t (0 : Fin 2) * 4000 + win0_3.xsize (grid0.coords t) (0 : Fin 2) := h 0
    rw [e0, s0] at h'
    exact h'
  · match a with
    | ⟨0, _⟩ =>
      show win0_3.index t (0 : Fin 2) * 4000 ≤ (i 0 : Nat)
        ∧ (i 0 : Nat) < win0_3.index t (0 : Fin 2) * 4000 + win0_3.xsize (grid0.coords t) (0 : Fin 2)
      rw [e0, s0]
      exact h
    | ⟨1, _⟩ =>
      show win0_3.index t (1 : Fin 2) * 256 ≤ (i 1 : Nat)
        ∧ (i 1 : Nat) < win0_3.index t (1 : Fin 2) * 256 + win0_3.xsize (grid0.coords t) (1 : Fin 2)
      rw [e1, s1]
      omega

/-- The blocks fill the result array: row `r` lies in the block of point `r / 4000`. -/
theorem cover (i : S100000x256.Idx) : ∃ t : Fin cfg0.N, (cfg0.win 3).flush t = true ∧ i ∈ ((cfg0.win 3).blk t).view.set := by
  have h0 : (i 0 : Nat) < 100000 := (i 0).isLt
  have hN : cfg0.N = 25 := N_0
  have ht : (i 0 : Nat) / 4000 < cfg0.N := by omega
  refine ⟨⟨(i 0 : Nat) / 4000, ht⟩, flush0_3 _, ?_⟩
  rw [mem_blk]
  dsimp only
  omega

/-- So the result array ends holding `rows`. -/
theorem final : (dats m 0 c).arrAt 3 cfg0.N = rows m c :=
  (dats m 0 c).arrAt_eq_of_cover 3 (rows m c) (fun t _ => flushed_eq m c t) cover

/-- The run, read: the result array holds `rows` and the arguments are unchanged. -/
theorem run : θ_run defs (onTc (τ := τ) (main (F := Ideal))) ⟨m, fun _ => 0, ρ⟩ fun r => ∀ c : Dev nD,
      r.2.mem ((c : Thread nD τ).loc main_v1) = rows m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Value.run_blocks m ρ)

end Cert.KernelIdeal.RowValue

end
-- ==== Proof.Equation.lean ====
/- The equation: where the first row and the weights 4 to 8 are finite, the reference's result is the kernel's. -/
module

public import proofs.«01_k».proof.Defs
public import proofs.«01_k».proof.Proof.Finite
public import proofs.«01_k».proof.Proof.RefValue
public import proofs.«01_k».proof.Proof.KernelValue
public import Idealize.ShloMosaic.Lib.Quiescent

@[expose] public section

set_option maxRecDepth 16384

noncomputable section

open Idealize.ShloMosaic Idealize.SL.Sem

namespace Cert.Proof

/-- The two results agree, element by element, when the arguments agree and satisfy the precondition. -/
theorem results_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal_finite_row_and_taps m) (c : Dev Cert.KernelIdeal.nD)
    (h0 : Cert.ReferenceIdeal.Rows.X m' c = Cert.KernelIdeal.RowValue.X m c)
    (h2 : Cert.ReferenceIdeal.Rows.W m' c = Cert.KernelIdeal.RowValue.W m c)
    (h3 : Cert.ReferenceIdeal.Rows.B m' c = Cert.KernelIdeal.RowValue.B m c) :
    Cert.ReferenceIdeal.Value.res_out0 m' c = Cert.KernelIdeal.RowValue.rows m c := by
  funext (j : Cert.ReferenceIdeal.S100000x256.Idx)
  have hrow := Cert.Taps.row_finite _ _ _ _ (hpre c).1 (j 1)
  have hw := Cert.Taps.weight_finite _ _ _ _ (hpre c).2
  have e : j = ix2 (j 0 : Fin 100000) (j 1 : Fin 256) := eq_ix2 j
  refine (congrArg (Cert.ReferenceIdeal.Value.res_out0 m' c) e).trans ?_
  refine (Cert.ReferenceIdeal.Rows.result_apply m' c (j 0) (j 1)).trans ?_
  rw [h0, h2, h3]
  exact Cert.Taps.nine_taps _ _ _ _ _ _ _ _ _ _ _ hrow (hw 0) (hw 1) (hw 2) (hw 3) (hw 4)

/-- The value claim: both programs run from agreeing arguments that satisfy the precondition, and end with equal results. -/
theorem algebraic : Cert.algebraic_KernelIdeal_ReferenceIdeal_pre_finite_row_and_taps := by
  intro m g m' g' hpre hagree
  refine ⟨fun c => Cert.KernelIdeal.RowValue.rows m c, Cert.KernelIdeal.RowValue.run m g, ?_⟩
  refine (θ_run Cert.ReferenceIdeal.defs _ _).mono (fun r h c => ?_) (Cert.ReferenceIdeal.Value.run (F := Ideal) m' g')
  obtain ⟨h0, _, h2, h3⟩ := hagree c
  exact ⟨(h c).1.trans (results_agree m m' hpre c h0 h2 h3), (h c).2⟩

/-- The reference runs to its end, leaves its arguments unchanged, and declares no semaphore. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
        ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m g)

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Pre_finite_row_and_taps
public import proofs.«01_k».proof.Proof.Equation
public import Idealize.ShloMosaic.Adequacy
public import Idealize.ShloMosaic.Init

@[expose] public section

noncomputable section

namespace Cert.Proof

open Idealize.ShloMosaic Idealize.SL.Sem Cert.Kernel

/-- Everything the certificate claims. -/
theorem claim : Cert.Claim :=
  ⟨Cert.Kernel.Gen.facts, Cert.KernelIdeal.Gen.facts, Cert.ReferenceIdeal.Gen.facts, Cert.Pre_finite_row_and_taps.Gen.facts,
    fun m g _ => Cert.Kernel.Gen.frame m g,
    fun m g _ => Cert.KernelIdeal.Gen.frame m g,
    fun m g _ => Cert.KernelIdeal.Gen.frame m g,
    fun m g _ => reference_frame m g,
    fun m g _ => reference_frame m g,
    trivial,
    algebraic⟩

end Cert.Proof

end
